-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2 : Shape := ⟨2, ![8192, 2]⟩
abbrev S8192x100x100 : Shape := ⟨3, ![8192, 100, 100]⟩
abbrev S64x2 : Shape := ⟨2, ![64, 2]⟩
abbrev S64x100x100 : Shape := ⟨3, ![64, 100, 100]⟩
abbrev S64x1 : Shape := ⟨2, ![64, 1]⟩
abbrev S64 : Shape := ⟨1, ![64]⟩
abbrev S64x1x1 : Shape := ⟨3, ![64, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x2, .i32⟩
  | .hbm, ⟨1, _⟩ => ⟨S8192x100x100, .f32⟩
  | .local _ .vmem, ⟨0, _⟩ => ⟨S64x2, .i32⟩
  | .local _ .vmem, ⟨1, _⟩ => ⟨S64x2, .i32⟩
  | .local _ .vmem, ⟨2, _⟩ => ⟨S64x100x100, .f32⟩
  | .local _ .vmem, ⟨3, _⟩ => ⟨S64x100x100, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x100x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x2 : Shape := ⟨2, ![8192, 2]⟩
abbrev S8192x1 : Shape := ⟨2, ![8192, 1]⟩
abbrev S8192 : Shape := ⟨1, ![8192]⟩
abbrev S100 : Shape := ⟨1, ![100]⟩
abbrev S1x100 : Shape := ⟨2, ![1, 100]⟩
abbrev S8192x100 : Shape := ⟨2, ![8192, 100]⟩
abbrev S8192x100x1 : Shape := ⟨3, ![8192, 100, 1]⟩
abbrev S8192x100x100 : Shape := ⟨3, ![8192, 100, 100]⟩

abbrev nBuf : Space → Nat
  | .hbm => 12
  | .vmem => 0
  | .smem => 0
  | _ => 0

abbrev bufTy : (tb : Table) → Fin (tcTables nBuf tb) → BufTy
  | .hbm, ⟨0, _⟩ => ⟨S8192x2, .i32⟩
  | .hbm, ⟨1, _⟩ => ⟨S8192x1, .i32⟩
  | .hbm, ⟨2, _⟩ => ⟨S8192, .i32⟩
  | .hbm, ⟨3, _⟩ => ⟨S100, .i32⟩
  | .hbm, ⟨4, _⟩ => ⟨S1x100, .i32⟩
  | .hbm, ⟨5, _⟩ => ⟨S8192x1, .i32⟩
  | .hbm, ⟨6, _⟩ => ⟨S8192x100, .i32⟩
  | .hbm, ⟨7, _⟩ => ⟨S8192x100, .i32⟩
  | .hbm, ⟨8, _⟩ => ⟨S8192x100, .i1⟩
  | .hbm, ⟨9, _⟩ => ⟨S8192x100, .f32⟩
  | .hbm, ⟨10, _⟩ => ⟨S8192x100x1, .f32⟩
  | .hbm, ⟨11, _⟩ => ⟨S8192x100x100, .f32⟩
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩

abbrev nD : Nat := 1
abbrev τ : Topo := Topo.v7x

variable {F : FTy → Type} [FloatOps F]
-- ==== Proof.Mask.lean ====
/-
  The mask as mathematics, free of either program's layout: cell (b, r, q) says whether row `r` lies below the count
  in the first column of row `b` of the spans. `cell` is the word-level truth value turned into a float; at the ideal
  instance it is the real 1 or 0 (`cell_ideal`), and a sign-read widened truth value is the same real (`widened_ideal`).
-/
module

public import Idealize.ShloMosaic.PureOps.Ideal
public import Idealize.ShloMosaic.Lib.Pipeline.Value

@[expose] public section

noncomputable section

namespace Cert.Mask

open Idealize.ShloMosaic

/-- The truth value of "row `r` is below the count `n`", the words read signed. -/
abbrev below (r : Nat) (n : BitVec 32) : BitVec 1 := IntOp.cmpi .slt (BitVec.ofNat 32 r) n

/-- One mask entry over the extended reals: 1 where row `r` is below the count `n`, else 0. -/
def cell (r : Nat) (n : BitVec 32) : EReal := if below r n = 1#1 then 1 else 0

/-- A one-bit word is 0 or 1. -/
theorem bit_cases (b : BitVec 1) : b = 0#1 ∨ b = 1#1 := by
  revert b; decide

/-- A truth value converted to a float without sign is the mask entry. -/
theorem unsigned_ideal (r : Nat) (n : BitVec 32) :
    FloatOps.uitofp (F := Ideal) .f32 (below r n) = cell r n := by
  show (((below r n).toNat : ℝ) : EReal) = _
  unfold cell
  rcases bit_cases (below r n) with h | h <;> rw [h] <;> simp

/-- A truth value widened to a word and then converted with sign is the mask entry too: widening by zeros leaves
    a non-negative integer. -/
theorem widened_ideal (r : Nat) (n : BitVec 32) :
    FloatOps.sitofp (F := Ideal) .f32 ((below r n).setWidth 32) = cell r n := by
  show ((((below r n).setWidth 32).toInt : ℝ) : EReal) = _
  unfold cell
  rcases bit_cases (below r n) with h | h <;> rw [h] <;> simp

/-- For a row index that a signed word holds, the entry is decided by comparing integers. -/
theorem cell_eq_one_iff (r : Nat) (hr : r < 2 ^ 31) (n : BitVec 32) : cell r n = 1 ↔ (r : Int) < n.toInt := by
  have hrI : (BitVec.ofNat 32 r).toInt = (r : Int) := by
    rw [BitVec.toInt_eq_toNat_of_lt] <;> rw [BitVec.toNat_ofNat, Nat.mod_eq_of_lt (by omega)]; omega
  have hb : below r n = 1#1 ↔ (r : Int) < n.toInt := by
    show BitVec.ofBool ((BitVec.ofNat 32 r).slt n) = 1#1 ↔ _
    rw [BitVec.slt, hrI]
    by_cases h : (r : Int) < n.toInt <;> simp [h]
  unfold cell
  rw [← hb]
  by_cases h : below r n = 1#1 <;> simp [h]

end Cert.Mask

end
-- ==== Proof.KernelMask.lean ====
/-
  What the tiled kernel leaves in its result: block by block the mask of its 64 span rows, hence as a whole the mask of
  all 8192 rows. The kernel's own words are followed here: load the counts' column, lay it along the block's leading
  axis, compare with a row iota, widen, convert.
-/
module

public import proofs.«01_k».proof.Proof.Gen.KernelIdeal.Value
public import proofs.«01_k».proof.Proof.Mask
public import Idealize.ShloMosaic.Lib.ValueIdx

@[expose] public section

noncomputable section

namespace Cert.KernelIdeal.MaskValue

open Cert.KernelIdeal Cert.KernelIdeal.Gen Cert.Mask
open Idealize.ShloMosaic Idealize.ShloMosaic.TcCoe Idealize.SL.Sem
open Idealize.ShloMosaic.Pipeline (Dat)

/-- The mask of a span array: entry (b, r, q) is `cell` of row `r` and of the count in row `b`'s first column. -/
def mask (x : Vec Ideal S8192x2 .i32) : Vec Ideal S8192x100x100 .f32 :=
  fun i => cell (i 1).val (x (ValueIdx.ix2 (i 0) (0 : Fin 2)))

/-- The body's stored value at an index of the block: the mask entry of the row coordinate and the loaded count. -/
theorem payload_apply (v : Vec Ideal S64x1 .i32) (y : S64x100x100.Idx) :
    k0_pay1 (F := Ideal) v y = cell (y 1).val (v (ValueIdx.ix2 (y 0) (0 : Fin 1))) := by
  rw [← widened_ideal]
  show FloatOps.sitofp (F := Ideal) .f32 ((IntOp.cmpi .slt (iota .tc S64x100x100 32 [1] iota_S64x100x100_d1_w32 y)
    (broadcastTo S64x100x100 (shapeCast S64x1x1 (shapeCast S64 v shapeCasts_S64x1_S64) shapeCasts_S64_S64x1x1)
      broadcasts_S64x1x1_S64x100x100 y)).setWidth 32) = _
  rw [iota_single_apply]
  rw [broadcastTo_apply _ broadcasts_S64x1x1_S64x100x100 y (ValueIdx.ix3 (y 0) (0 : Fin 1) (0 : Fin 1))
    (fun a => by match a with | ⟨0, _⟩ => rfl | ⟨1, _⟩ => rfl | ⟨2, _⟩ => rfl)]
  rw [shapeCast_apply _ shapeCasts_S64_S64x1x1 _ (ValueIdx.ix1 (y 0)) (by
    rw [Shape.rowMajor_val_one, Shape.rowMajor_val_three]; show (y 0 : Nat) = ((y 0 : Nat) * 1 + 0) * 1 + 0; omega)]
  rw [shapeCast_apply _ shapeCasts_S64x1_S64 _ (ValueIdx.ix2 (y 0) (0 : Fin 1)) (by
    rw [Shape.rowMajor_val_one, Shape.rowMajor_val_two]; show (y 0 : Nat) * 1 + 0 = (y 0 : Nat); omega)]

/-- What the body leaves in the result's staging buffer, from the block of spans. -/
theorem block_apply (x : Vec Ideal S64x2 .i32) (y : S64x100x100.Idx) :
    out0_1 (F := Ideal) x y = cell (y 1).val (x (ValueIdx.ix2 (y 0) (0 : Fin 2))) := by
  have hz : (![0, 0, 0] : Fin 3 → Nat) = fun _ => 0 := funext fun a => by fin_cases a <;> rfl
  unfold out0_1
  rw [View.canon_unit_zero hz, payload_apply, View.ld_unit]
  refine congrArg (cell (y 1).val) ?_
  exact extractStridedSlice_apply _ _ _ _ (ValueIdx.ix2 (y 0) (0 : Fin 2))
    (fun a => by match a with | ⟨0, _⟩ => exact (Nat.zero_add _).symm | ⟨1, _⟩ => rfl)

/-- Both windows stand at block `t` of the leading axis at grid point `t`, at the origin of every other axis. -/
theorem index_facts : ∀ t : Fin grid0.N,
    win0_0.index t 0 = t.val ∧ win0_0.index t 1 = 0 ∧ win0_1.index t 0 = t.val ∧ win0_1.index t 1 = 0 ∧ win0_1.index t 2 = 0 := by
  decide +kernel

variable (m : (ℓ : Loc nD τ sig) → Buf (Elt Ideal) ℓ) (ρ : Dev nD → PrngReg)

/-- What grid point `t` writes back is block `t` of the mask of the span argument. -/
theorem flushed_eq (c : Dev nD) (t : Fin cfg0.N) :
    (dats m 0 c).flushed 1 t
      = ((cfg0.win 1).blk t).view.read (Elt Ideal) (mask (m ((c : Thread nD τ).loc main_arg0))) := by
  obtain ⟨a0, a1, b0, b1, b2⟩ := index_facts t
  rw [Value.flushed1]
  funext y
  refine (block_apply (iblk m c 0 t) y).trans ?_
  show cell (y 1).val (m ((c : Thread nD τ).loc main_arg0) ((win0_0.blk t).view.emb (ValueIdx.ix2 (y 0) (0 : Fin 2))))
    = cell ((win0_1.blk t).view.emb y 1).val
        (m ((c : Thread nD τ).loc main_arg0) (ValueIdx.ix2 ((win0_1.blk t).view.emb y 0) (0 : Fin 2)))
  have e1 : ((win0_1.blk t).view.emb y 1).val = (y 1).val := by
    show win0_1.index t 1 * 100 + 1 * (y 1).val = _
    omega
  have e0 : (win0_0.blk t).view.emb (ValueIdx.ix2 (y 0) (0 : Fin 2))
      = ValueIdx.ix2 ((win0_1.blk t).view.emb y 0) (0 : Fin 2) := by
    refine Shape.idx_ext₂ ?_ ?_
    · show win0_0.index t 0 * 64 + 1 * (y 0).val = win0_1.index t 0 * 64 + 1 * (y 0).val
      omega
    · show win0_0.index t 1 * 2 + 1 * 0 = 0
      omega
  exact congrArg₂ cell e1.symm (congrArg (m ((c : Thread nD τ).loc main_arg0)) e0)

/-- Every index of the result lies in the block of the grid point that its leading coordinate names. -/
theorem cover (i : S8192x100x100.Idx) :
    ∃ t : Fin cfg0.N, (cfg0.win 1).flush t = true ∧ i ∈ ((cfg0.win 1).blk t).view.set := by
  have h0 : (i 0 : Nat) < 8192 := (i 0).isLt
  have h1 : (i 1 : Nat) < 100 := (i 1).isLt
  have h2 : (i 2 : Nat) < 100 := (i 2).isLt
  have hN : cfg0.N = 128 := N_0
  have ht : (i 0 : Nat) / 64 < cfg0.N := by omega
  obtain ⟨-, -, b0, b1, b2⟩ := index_facts ⟨(i 0 : Nat) / 64, ht⟩
  refine ⟨⟨(i 0 : Nat) / 64, ht⟩, flush0_1 _, ?_⟩
  show i ∈ ((View.whole main_v0).slice (win0_1.rect ⟨(i 0 : Nat) / 64, ht⟩)).set
  rw [View.set_slice_whole, Rect.mem_set_unit]
  intro a
  match a with
  | ⟨0, _⟩ =>
    show win0_1.index ⟨(i 0 : Nat) / 64, ht⟩ 0 * 64 ≤ (i 0 : Nat) ∧ (i 0 : Nat) < win0_1.index ⟨(i 0 : Nat) / 64, ht⟩ 0 * 64 + 64
    dsimp only at b0; omega
  | ⟨1, _⟩ =>
    show win0_1.index ⟨(i 0 : Nat) / 64, ht⟩ 1 * 100 ≤ (i 1 : Nat) ∧ (i 1 : Nat) < win0_1.index ⟨(i 0 : Nat) / 64, ht⟩ 1 * 100 + 100
    omega
  | ⟨2, _⟩ =>
    show win0_1.index ⟨(i 0 : Nat) / 64, ht⟩ 2 * 100 ≤ (i 2 : Nat) ∧ (i 2 : Nat) < win0_1.index ⟨(i 0 : Nat) / 64, ht⟩ 2 * 100 + 100
    omega

/-- After the last grid point the result array is the mask of the span argument. -/
theorem final_eq (c : Dev nD) : (dats m 0 c).arrAt 1 cfg0.N = mask (m ((c : Thread nD τ).loc main_arg0)) :=
  (dats m 0 c).arrAt_eq_of_cover 1 _ (fun t _ => flushed_eq m c t) cover

/-- The run: the result is the mask of the span argument, which ends unchanged. -/
theorem run : θ_run defs (onTc (τ := τ) (main (F := Ideal))) ⟨m, fun _ => 0, ρ⟩ fun r => ∀ c : Dev nD,
      r.2.mem ((c : Thread nD τ).loc main_v0) = mask (m ((c : Thread nD τ).loc main_arg0))
      ∧ r.2.mem ((c : Thread nD τ).loc main_arg0) = m ((c : Thread nD τ).loc main_arg0) :=
  (θ_run defs _ _).mono (fun _ h c => ⟨(h c).1.trans (final_eq m c), (h c).2⟩) (Value.run_blocks m ρ)

end Cert.KernelIdeal.MaskValue

end
-- ==== Proof.ReferenceMask.lean ====
/-
  What the reference's composed term is, entry by entry: the first column of the spans sliced out, compared with a
  row iota on an 8192 × 100 grid, converted, and repeated along the last axis.
-/
module

public import proofs.«01_k».proof.Proof.Gen.ReferenceIdeal.Run
public import proofs.«01_k».proof.Proof.Mask
public import Idealize.ShloMosaic.Lib.ValueIdx

@[expose] public section

noncomputable section

namespace Cert.ReferenceIdeal.MaskValue

open Cert.ReferenceIdeal Cert.ReferenceIdeal.Gen Cert.Mask
open Idealize.ShloMosaic Idealize.ShloMosaic.TcCoe Idealize.SL.Sem

/-- The counts: column 0 of the spans as a vector of 8192 words. -/
abbrev counts (x : Vec Ideal S8192x2 .i32) : Vec Ideal S8192 .i32 :=
  shapeCast S8192 (extractStridedSlice S8192x1 ![0, 0] x slices_S8192x2_S8192x1_0_0) shapeCasts_S8192x1_S8192

/-- A count read at its row. -/
theorem counts_apply (x : Vec Ideal S8192x2 .i32) (b : Fin 8192) :
    counts x (ValueIdx.ix1 b) = x (ValueIdx.ix2 b (0 : Fin 2)) := by
  unfold counts
  rw [shapeCast_apply _ shapeCasts_S8192x1_S8192 _ (ValueIdx.ix2 b (0 : Fin 1)) (by
    rw [Shape.rowMajor_val_one, Shape.rowMajor_val_two]; show (b : Nat) * 1 + 0 = (b : Nat); omega)]
  exact extractStridedSlice_apply _ _ _ _ (ValueIdx.ix2 b (0 : Fin 2))
    (fun a => by match a with | ⟨0, _⟩ => exact (Nat.zero_add _).symm | ⟨1, _⟩ => rfl)

/-- The reference's result as its run states it. -/
abbrev result (x : Vec Ideal S8192x2 .i32) : Vec Ideal S8192x100x100 .f32 :=
  broadcastInDim S8192x100x100 ![0, 1, 2] bcast_S8192x100x1_S8192x100x100_0_1_2
    (broadcastInDim S8192x100x1 ![0, 1] bcast_S8192x100_S8192x100x1_0_1
      (uitofp (F := Ideal) .f32 (cmpi .slt
        (broadcastInDim S8192x100 ![0, 1] bcast_S1x100_S8192x100_0_1
          (broadcastInDim S1x100 ![1] bcast_S100_S1x100_1 (iotaInDim S100 32 0)))
        (broadcastInDim S8192x100 ![0, 1] bcast_S8192x1_S8192x100_0_1
          (broadcastInDim S8192x1 ![0] bcast_S8192_S8192x1_0 (counts x))))))

/-- The reference's result at an index is the mask entry of the row coordinate and that batch row's count. -/
theorem result_apply (x : Vec Ideal S8192x2 .i32) (i : S8192x100x100.Idx) :
    result x i = cell (i 1).val (x (ValueIdx.ix2 (i 0) (0 : Fin 2))) := by
  unfold result
  rw [broadcastInDim_apply _ bcast_S8192x100x1_S8192x100x100_0_1_2 _ i (ValueIdx.ix3 (i 0) (i 1) (0 : Fin 1))
    (fun a => by match a with | ⟨0, _⟩ => rfl | ⟨1, _⟩ => rfl | ⟨2, _⟩ => rfl)]
  rw [broadcastInDim_apply _ bcast_S8192x100_S8192x100x1_0_1 _ _ (ValueIdx.ix2 (i 0) (i 1))
    (fun a => by match a with | ⟨0, _⟩ => rfl | ⟨1, _⟩ => rfl)]
  refine Eq.trans ?_ (congrArg (cell (i 1).val) (counts_apply x (i 0)))
  rw [← unsigned_ideal]
  show FloatOps.uitofp (F := Ideal) .f32 (IntOp.cmpi .slt _ _) = _
  rw [broadcastInDim_apply _ bcast_S1x100_S8192x100_0_1 _ _ (ValueIdx.ix2 (0 : Fin 1) (i 1))
    (fun a => by match a with | ⟨0, _⟩ => rfl | ⟨1, _⟩ => rfl)]
  rw [broadcastInDim_apply _ bcast_S100_S1x100_1 _ _ (ValueIdx.ix1 (i 1))
    (fun a => by match a with | ⟨0, _⟩ => rfl)]
  rw [broadcastInDim_apply _ bcast_S8192x1_S8192x100_0_1 _ _ (ValueIdx.ix2 (i 0) (0 : Fin 1))
    (fun a => by match a with | ⟨0, _⟩ => rfl | ⟨1, _⟩ => rfl)]
  rw [broadcastInDim_apply _ bcast_S8192_S8192x1_0 _ _ (ValueIdx.ix1 (i 0))
    (fun a => by match a with | ⟨0, _⟩ => rfl)]
  rfl

end Cert.ReferenceIdeal.MaskValue

end
-- ==== Proof.lean ====
/-
  The five claims: the three frames, `preserves`, and the equality of kernel and reference over the extended reals.
  The frames of the two kernel programs are generated; the reference's is its run read at the argument. The value claim
  sets the kernel's result (Proof/KernelMask.lean) beside the reference's (Proof/ReferenceMask.lean): both are, at every
  index, the mask entry of Proof/Mask.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelMask
public import proofs.«01_k».proof.Proof.ReferenceMask
public import Idealize.ShloMosaic.Adequacy
public import Idealize.ShloMosaic.Init

@[expose] public section

noncomputable section

namespace Cert.Proof

open Idealize.ShloMosaic Idealize.SL.Sem

/-- The reference terminates, leaves its argument unchanged and, having no semaphore, every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same mask, whatever words the spans hold. -/
theorem same_mask : Cert.algebraic_KernelIdeal_ReferenceIdeal := by
  intro m ρ m' ρ' _ hagree
  refine ⟨_, Cert.KernelIdeal.MaskValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact funext fun i => Cert.ReferenceIdeal.MaskValue.result_apply _ i

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, trivial, same_mask⟩

end Cert.Proof

end
